-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S8x1x4608 : Shape := ⟨3, ![8, 1, 4608]⟩
abbrev S4608x4608 : Shape := ⟨2, ![4608, 4608]⟩
abbrev S4608 : Shape := ⟨1, ![4608]⟩
abbrev S36864 : Shape := ⟨1, ![36864]⟩
abbrev S_ : Shape := ⟨0, ![]⟩

class Facts : Prop where
  bcast_S_S8x1x4608 : S_.BroadcastsInDim S8x1x4608 (![] : Fin 0 → Fin S8x1x4608.rank)
  reducesTo_S8x1x4608_S_d0_1_2 : S8x1x4608.ReducesTo [0, 1, 2] S_
  h_S_ : 0 < S_.numel

variable [Facts]

def fn {F : FTy → Type} [FloatOps F] (main_arg0 : FVec F S8x1x4608 .bf16) (main_arg1 : IVec S4608x4608 32) (main_arg2 : IVec S4608 32) (main_arg3 : FVec F S36864 .bf16) : IVec S_ 1 :=
  let main_v0 : FVec F S8x1x4608 .bf16 := Host.absf main_arg0
  let main_cst : FVec F S_ .bf16 := constant S_ .bf16 0x7F80#16
  let main_v1 : FVec F S8x1x4608 .bf16 := broadcastInDim S8x1x4608 ![] bcast_S_S8x1x4608 main_cst
  let main_v2 : IVec S8x1x4608 1 := cmpf .olt main_v0 main_v1
  let main_c : IVec S_ 1 := constantI S_ 1 1#1
  let main_v3 : IVec S_ 1 := (fun x v => Host.reduce IntOp.andi x v reducesTo_S8x1x4608_S_d0_1_2 h_S_) main_v2 main_c
  main_v3
-- ==== Kernel.lean ====
abbrev S8x1x4608 : Shape := ⟨3, ![8, 1, 4608]⟩
abbrev S4608x4608 : Shape := ⟨2, ![4608, 4608]⟩
abbrev S4608 : Shape := ⟨1, ![4608]⟩
abbrev S36864 : Shape := ⟨1, ![36864]⟩
abbrev S8x4608 : Shape := ⟨2, ![8, 4608]⟩
abbrev S_ : Shape := ⟨0, ![]⟩
abbrev S8x4608x1 : Shape := ⟨3, ![8, 4608, 1]⟩
abbrev S8x4608x2 : Shape := ⟨3, ![8, 4608, 2]⟩
abbrev S8x9216 : Shape := ⟨2, ![8, 9216]⟩
abbrev S16x9216 : Shape := ⟨2, ![16, 9216]⟩
abbrev S16x9x1024 : Shape := ⟨3, ![16, 9, 1024]⟩
abbrev S9x16x1024 : Shape := ⟨3, ![9, 16, 1024]⟩
abbrev S4608x8 : Shape := ⟨2, ![4608, 8]⟩
abbrev S1x4608 : Shape := ⟨2, ![1, 4608]⟩
abbrev S8x8x4608 : Shape := ⟨3, ![8, 8, 4608]⟩
abbrev S4608x256 : Shape := ⟨2, ![4608, 256]⟩
abbrev S1x256 : Shape := ⟨2, ![1, 256]⟩
abbrev S8x256 : Shape := ⟨2, ![8, 256]⟩
abbrev S8x8x256 : Shape := ⟨3, ![8, 8, 256]⟩
abbrev S8 : Shape := ⟨1, ![8]⟩
abbrev S8x1 : Shape := ⟨2, ![8, 1]⟩
abbrev S16x256 : Shape := ⟨2, ![16, 256]⟩
abbrev S512x256 : Shape := ⟨2, ![512, 256]⟩
abbrev S1x16x1024 : Shape := ⟨3, ![1, 16, 1024]⟩
abbrev S16x1024 : Shape := ⟨2, ![16, 1024]⟩
abbrev S1024x256 : Shape := ⟨2, ![1024, 256]⟩
abbrev S1x8x256 : Shape := ⟨3, ![1, 8, 256]⟩
abbrev S8x4608x8 : Shape := ⟨3, ![8, 4608, 8]⟩
abbrev S8x1x36864 : Shape := ⟨3, ![8, 1, 36864]⟩

abbrev nBuf : Space → Nat
  | .hbm => 25
  | .vmem => 10
  | .smem => 0
  | _ => 0

abbrev bufTy : (tb : Table) → Fin (tcTables nBuf tb) → BufTy
  | .hbm, ⟨0, _⟩ => ⟨S8x1x4608, .bf16⟩
  | .hbm, ⟨1, _⟩ => ⟨S4608x4608, .i32⟩
  | .hbm, ⟨2, _⟩ => ⟨S4608, .i32⟩
  | .hbm, ⟨3, _⟩ => ⟨S36864, .bf16⟩
  | .hbm, ⟨4, _⟩ => ⟨S8x4608, .bf16⟩
  | .hbm, ⟨5, _⟩ => ⟨S_, .bf16⟩
  | .hbm, ⟨6, _⟩ => ⟨S8x4608, .bf16⟩
  | .hbm, ⟨7, _⟩ => ⟨S8x4608x1, .bf16⟩
  | .hbm, ⟨8, _⟩ => ⟨S8x4608x1, .bf16⟩
  | .hbm, ⟨9, _⟩ => ⟨S8x4608x2, .bf16⟩
  | .hbm, ⟨10, _⟩ => ⟨S8x9216, .bf16⟩
  | .hbm, ⟨11, _⟩ => ⟨S8x4608x1, .bf16⟩
  | .hbm, ⟨12, _⟩ => ⟨S8x4608x1, .bf16⟩
  | .hbm, ⟨13, _⟩ => ⟨S8x4608x2, .bf16⟩
  | .hbm, ⟨14, _⟩ => ⟨S8x9216, .bf16⟩
  | .hbm, ⟨15, _⟩ => ⟨S16x9216, .bf16⟩
  | .hbm, ⟨16, _⟩ => ⟨S16x9x1024, .bf16⟩
  | .hbm, ⟨17, _⟩ => ⟨S9x16x1024, .bf16⟩
  | .hbm, ⟨18, _⟩ => ⟨S36864, .f32⟩
  | .hbm, ⟨19, _⟩ => ⟨S4608x8, .f32⟩
  | .hbm, ⟨20, _⟩ => ⟨S8x4608, .f32⟩
  | .hbm, ⟨21, _⟩ => ⟨S1x4608, .i32⟩
  | .hbm, ⟨22, _⟩ => ⟨S8x8x4608, .bf16⟩
  | .hbm, ⟨23, _⟩ => ⟨S8x4608x8, .bf16⟩
  | .hbm, ⟨24, _⟩ => ⟨S8x1x36864, .bf16⟩
  | .local _ .vmem, ⟨0, _⟩ => ⟨S8x4608, .bf16⟩
  | .local _ .vmem, ⟨1, _⟩ => ⟨S9x16x1024, .bf16⟩
  | .local _ .vmem, ⟨2, _⟩ => ⟨S4608x256, .i32⟩
  | .local _ .vmem, ⟨3, _⟩ => ⟨S4608x256, .i32⟩
  | .local _ .vmem, ⟨4, _⟩ => ⟨S1x256, .i32⟩
  | .local _ .vmem, ⟨5, _⟩ => ⟨S1x256, .i32⟩
  | .local _ .vmem, ⟨6, _⟩ => ⟨S8x256, .f32⟩
  | .local _ .vmem, ⟨7, _⟩ => ⟨S8x256, .f32⟩
  | .local _ .vmem, ⟨8, _⟩ => ⟨S8x8x256, .bf16⟩
  | .local _ .vmem, ⟨9, _⟩ => ⟨S8x8x256, .bf16⟩
  | _, _ => ⟨S8x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c9_i32 : BitVec 32 := 9#32
  let v9 : BitVec 32 := Scalar.addi c0_i32 c9_i32
  let c1_i32 : BitVec 32 := 1#32
  ⟨c0_i32, v9, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v173 : BitVec 32 := Scalar.muli arg7 c512_i32
  let v174 : Index := Scalar.indexCast v173
  let c0_57 : Index := 0#32
  ![v174.toNat, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v176 : Index := Scalar.indexCast arg7
  let c0_58 : Index := 0#32
  let c0_59 : Index := 0#32
  ![v176.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4608x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x1x4608 : Shape := ⟨3, ![8, 1, 4608]⟩
abbrev S4608x4608 : Shape := ⟨2, ![4608, 4608]⟩
abbrev S4608 : Shape := ⟨1, ![4608]⟩
abbrev S36864 : Shape := ⟨1, ![36864]⟩
abbrev S8 : Shape := ⟨1, ![8]⟩
abbrev S8x4608 : Shape := ⟨2, ![8, 4608]⟩
abbrev S_ : Shape := ⟨0, ![]⟩
abbrev S8x1 : Shape := ⟨2, ![8, 1]⟩
abbrev S4608x1x4608 : Shape := ⟨3, ![4608, 1, 4608]⟩
abbrev S1x8x1 : Shape := ⟨3, ![1, 8, 1]⟩
abbrev S4608x8x4608 : Shape := ⟨3, ![4608, 8, 4608]⟩
abbrev S1x4608 : Shape := ⟨2, ![1, 4608]⟩
abbrev S8x8x4608 : Shape := ⟨3, ![8, 8, 4608]⟩
abbrev S4608x8 : Shape := ⟨2, ![4608, 8]⟩
abbrev S8x1x1 : Shape := ⟨3, ![8, 1, 1]⟩
abbrev S1x8x4608 : Shape := ⟨3, ![1, 8, 4608]⟩
abbrev S8x4608x8 : Shape := ⟨3, ![8, 4608, 8]⟩
abbrev S8x1x36864 : Shape := ⟨3, ![8, 1, 36864]⟩

abbrev nBuf : Space → Nat
  | .hbm => 44
  | .vmem => 0
  | .smem => 0
  | _ => 0

abbrev bufTy : (tb : Table) → Fin (tcTables nBuf tb) → BufTy
  | .hbm, ⟨0, _⟩ => ⟨S8x1x4608, .bf16⟩
  | .hbm, ⟨1, _⟩ => ⟨S4608x4608, .i32⟩
  | .hbm, ⟨2, _⟩ => ⟨S4608, .i32⟩
  | .hbm, ⟨3, _⟩ => ⟨S36864, .bf16⟩
  | .hbm, ⟨4, _⟩ => ⟨S8, .i32⟩
  | .hbm, ⟨5, _⟩ => ⟨S8x4608, .bf16⟩
  | .hbm, ⟨6, _⟩ => ⟨S8x4608, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S4608x1x4608, .i32⟩
  | .hbm, ⟨11, _⟩ => ⟨S1x8x1, .i32⟩
  | .hbm, ⟨12, _⟩ => ⟨S4608x8x4608, .i32⟩
  | .hbm, ⟨13, _⟩ => ⟨S4608x8x4608, .i32⟩
  | .hbm, ⟨14, _⟩ => ⟨S4608x8x4608, .i32⟩
  | .hbm, ⟨15, _⟩ => ⟨S_, .i32⟩
  | .hbm, ⟨16, _⟩ => ⟨S4608x8x4608, .i32⟩
  | .hbm, ⟨17, _⟩ => ⟨S4608x8x4608, .i32⟩
  | .hbm, ⟨18, _⟩ => ⟨S4608x8x4608, .bf16⟩
  | .hbm, ⟨19, _⟩ => ⟨S1x4608, .i32⟩
  | .hbm, ⟨20, _⟩ => ⟨S8x1, .i32⟩
  | .hbm, ⟨21, _⟩ => ⟨S8x4608, .i32⟩
  | .hbm, ⟨22, _⟩ => ⟨S8x4608, .i32⟩
  | .hbm, ⟨23, _⟩ => ⟨S8x4608, .i32⟩
  | .hbm, ⟨24, _⟩ => ⟨S_, .i32⟩
  | .hbm, ⟨25, _⟩ => ⟨S8x4608, .i32⟩
  | .hbm, ⟨26, _⟩ => ⟨S8x4608, .i32⟩
  | .hbm, ⟨27, _⟩ => ⟨S8x4608, .f32⟩
  | .hbm, ⟨28, _⟩ => ⟨S8x8x4608, .f32⟩
  | .hbm, ⟨29, _⟩ => ⟨S36864, .f32⟩
  | .hbm, ⟨30, _⟩ => ⟨S4608x8, .f32⟩
  | .hbm, ⟨31, _⟩ => ⟨S8x4608, .f32⟩
  | .hbm, ⟨32, _⟩ => ⟨S8x1x1, .f32⟩
  | .hbm, ⟨33, _⟩ => ⟨S1x8x4608, .f32⟩
  | .hbm, ⟨34, _⟩ => ⟨S8x8x4608, .f32⟩
  | .hbm, ⟨35, _⟩ => ⟨S8x8x4608, .f32⟩
  | .hbm, ⟨36, _⟩ => ⟨S8x8x4608, .f32⟩
  | .hbm, ⟨37, _⟩ => ⟨S8x8x4608, .f32⟩
  | .hbm, ⟨38, _⟩ => ⟨S1x8x4608, .f32⟩
  | .hbm, ⟨39, _⟩ => ⟨S8x8x4608, .f32⟩
  | .hbm, ⟨40, _⟩ => ⟨S8x8x4608, .f32⟩
  | .hbm, ⟨41, _⟩ => ⟨S8x4608x8, .f32⟩
  | .hbm, ⟨42, _⟩ => ⟨S8x1x36864, .f32⟩
  | .hbm, ⟨43, _⟩ => ⟨S8x1x36864, .bf16⟩
  | _, _ => ⟨S8x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Nibble.lean ====
module

public import Idealize.ShloMosaic.Lib.Pointwise
public import Idealize.ShloMosaic.Lib.BitcastPair

@[expose] public section

noncomputable section

namespace Cert.Awq

open Idealize.ShloMosaic

/-- The four-bit code of the word `w` whose lowest bit is bit `s`. -/
def nib (w : BitVec 32) (s : ℕ) : ℕ := (w.extractLsb' s 4).toNat

/-- A code is below sixteen. -/
theorem nib_lt (w : BitVec 32) (s : ℕ) : nib w s < 16 := (w.extractLsb' s 4).isLt

/-- An arithmetic shift to the right by at most 28 and a mask by fifteen leave the four bits from the shift on. -/
theorem sshiftRight_and_15 (w : BitVec 32) (s : ℕ) (hs : s ≤ 28) :
    (w.sshiftRight s &&& 15#32) = (w.extractLsb' s 4).setWidth 32 := by
  apply BitVec.eq_of_getLsbD_eq
  intro i hi
  have h15 : (15#32).getLsbD i = decide (i < 4) := by
    interval_cases i <;> rfl
  rw [BitVec.getLsbD_and, h15, BitVec.getLsbD_setWidth, BitVec.getLsbD_extractLsb', BitVec.getLsbD_sshiftRight]
  by_cases h4 : i < 4
  · have h : s + i < 32 := by omega
    simp [h4, h, hi]
  · simp [h4]

/-- … so the masked shift, read as a signed integer, is the code. -/
theorem shrsi_and_15_toInt (u : ArithUnit) (w : BitVec 32) (s : ℕ) (hs : s ≤ 28) :
    (IntOp.andi (IntOp.shrsi u w (BitVec.ofNat 32 s)) 15#32).toInt = (nib w s : ℤ) := by
  have e : (BitVec.ofNat 32 s).toNat = s := by
    rw [BitVec.toNat_ofNat]; exact Nat.mod_eq_of_lt (by omega)
  unfold IntOp.andi IntOp.shrsi
  rw [e, if_pos (by omega)]
  unfold BitVec.sshiftRight'
  rw [e, sshiftRight_and_15 w s hs, BitVec.toInt_eq_toNat_of_lt]
  · rw [BitVec.toNat_setWidth]
    have := nib_lt w s
    unfold nib at *
    rw [Nat.mod_eq_of_lt (by omega)]
  · rw [BitVec.toNat_setWidth]
    have := nib_lt w s
    unfold nib at this
    rw [Nat.mod_eq_of_lt (by omega)]; omega

/-- The bf16 whose pattern is 128's with the code in its lowest four bits is 128 plus the code. -/
theorem ofBits_128 : ∀ c : BitVec 4, Ideal.ofBits .bf16 (0x4300#16 ||| c.setWidth 16) = (((128 : ℝ) + (c.toNat : ℝ) : ℝ) : EReal) := by
  have H : ∀ k : ℕ, k < 16 → Ideal.ofBits .bf16 (0x4300#16 ||| (BitVec.ofNat 4 k).setWidth 16)
      = (((128 : ℝ) + (((BitVec.ofNat 4 k).toNat : ℕ) : ℝ) : ℝ) : EReal) := by
    intro k hk
    interval_cases k <;> simp [Ideal.ofBits, Ideal.ieee, -EReal.coe_mul, -EReal.coe_add] <;> norm_num
  intro c
  have := H c.toNat c.isLt
  rwa [BitVec.ofNat_toNat, BitVec.setWidth_eq] at this

/-- The bf16 whose pattern is 16's with the code shifted left by three is 16 plus the code. -/
theorem ofBits_16 : ∀ c : BitVec 4, Ideal.ofBits .bf16 (0x4180#16 ||| (c.setWidth 16 <<< 3)) = (((16 : ℝ) + (c.toNat : ℝ) : ℝ) : EReal) := by
  have H : ∀ k : ℕ, k < 16 → Ideal.ofBits .bf16 (0x4180#16 ||| ((BitVec.ofNat 4 k).setWidth 16 <<< 3))
      = (((16 : ℝ) + (((BitVec.ofNat 4 k).toNat : ℕ) : ℝ) : ℝ) : EReal) := by
    intro k hk
    interval_cases k <;> simp [Ideal.ofBits, Ideal.ieee, -EReal.coe_mul, -EReal.coe_add] <;> norm_num
  intro c
  have := H c.toNat c.isLt
  rwa [BitVec.ofNat_toNat, BitVec.setWidth_eq] at this

/-- Plane 0: half `h` of the word masked by `0x000F000F` under the pattern of 128 in both halves. -/
theorem half_0 (w : BitVec 32) (h : Fin 2) :
    (IntOp.ori (IntOp.andi w 983055#32) 1124090624#32).extractLsb' (16 * h.val) 16
      = 0x4300#16 ||| (w.extractLsb' (16 * h.val) 4).setWidth 16 := by
  unfold IntOp.ori IntOp.andi
  apply BitVec.eq_of_getLsbD_eq
  intro i hi
  fin_cases h <;> interval_cases i <;> simp

/-- Plane 1: the word shifted right by one, masked by `0x00780078`, under the pattern of 16 in both halves. -/
theorem half_1 (w : BitVec 32) (h : Fin 2) :
    (IntOp.ori (IntOp.andi (IntOp.shrui .vector w 1#32) 7864440#32) 1098924416#32).extractLsb' (16 * h.val) 16
      = 0x4180#16 ||| ((w.extractLsb' (4 + 16 * h.val) 4).setWidth 16 <<< 3) := by
  unfold IntOp.ori IntOp.andi IntOp.shrui
  apply BitVec.eq_of_getLsbD_eq
  intro i hi
  fin_cases h <;> interval_cases i <;> simp

/-- Plane 2: the word shifted right by eight, masked by `0x000F000F`, under the pattern of 128 in both halves. -/
theorem half_2 (w : BitVec 32) (h : Fin 2) :
    (IntOp.ori (IntOp.andi (IntOp.shrui .vector w 8#32) 983055#32) 1124090624#32).extractLsb' (16 * h.val) 16
      = 0x4300#16 ||| (w.extractLsb' (8 + 16 * h.val) 4).setWidth 16 := by
  unfold IntOp.ori IntOp.andi IntOp.shrui
  apply BitVec.eq_of_getLsbD_eq
  intro i hi
  fin_cases h <;> interval_cases i <;> simp

/-- Plane 3: the word shifted right by nine, masked by `0x00780078`, under the pattern of 16 in both halves. -/
theorem half_3 (w : BitVec 32) (h : Fin 2) :
    (IntOp.ori (IntOp.andi (IntOp.shrui .vector w 9#32) 7864440#32) 1098924416#32).extractLsb' (16 * h.val) 16
      = 0x4180#16 ||| ((w.extractLsb' (12 + 16 * h.val) 4).setWidth 16 <<< 3) := by
  unfold IntOp.ori IntOp.andi IntOp.shrui
  apply BitVec.eq_of_getLsbD_eq
  intro i hi
  fin_cases h <;> interval_cases i <;> simp

/-- The f32 pattern of 128. -/
theorem ofBits_f32_128 : Ideal.ofBits .f32 0x43000000#32 = ((128 : ℝ) : EReal) := by
  simp [Ideal.ofBits, Ideal.ieee, -EReal.coe_mul]; norm_num

/-- The f32 pattern of 16. -/
theorem ofBits_f32_16 : Ideal.ofBits .f32 0x41800000#32 = ((16 : ℝ) : EReal) := by
  simp [Ideal.ofBits, Ideal.ieee, -EReal.coe_mul]; norm_num

end Cert.Awq

end
-- ==== Proof.Trip.lean ====
module

public import proofs.«01_k».proof.Proof.Gen.KernelIdeal.Frame
public import proofs.«01_k».proof.Proof.Nibble
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Awq

/-- What each plane adds to a code: 128, 16, 128, 16. -/
def offs (p : Fin 4) : ℝ := ![128, 16, 128, 16] p

/-- What plane `p` reads in half `h` of the word `w`: its offset plus the code at bit `4p + 16h`. -/
def wgt (p : Fin 4) (w : BitVec 32) (h : ℕ) : EReal := ((offs p + (nib w (4 * p.val + 16 * h) : ℝ) : ℝ) : EReal)

/-- Row `q` of the plane's 1024 rows is a half of row `q / 2` of the 512 words. -/
theorem src_at (q : Fin 1024) (l : Fin 256) (hp : ∀ a : Fin S512x256.rank, a.val + 2 = S512x256.rank → q.val / 2 < S512x256.size a) :
    bitcasts_S512x256_w32_S1024x256_w16.srcIdx (ix2 q l) (q.val / 2) hp = ix2 ⟨q.val / 2, by omega⟩ l := by
  funext a
  apply Fin.ext
  match a with
  | ⟨0, _⟩ => rw [Shape.Bitcasts.srcIdx_row _ _ _ _ _ rfl]; rfl
  | ⟨1, _⟩ => rw [Shape.Bitcasts.srcIdx_other _ _ _ _ _ (show ¬ (1 + 2 = 2) by decide)]; rfl

/-- A word vector read as halves: row `q` of the halves is half `q % 2` of row `q / 2` of the words. -/
theorem halves_at (v : IVec S512x256 32) (h : S512x256.Bitcasts 32 S1024x256 16) (q : Fin 1024) (l : Fin 256) :
    bitcast S1024x256 16 v h (ix2 q l) = (v (ix2 ⟨q.val / 2, by omega⟩ l)).extractLsb' (16 * (q.val % 2)) 16 :=
  (bitcast_32_16 v h (ix2 q l)).trans
    (congrArg (fun i => (v i).extractLsb' (16 * (q.val % 2)) 16) (src_at q l _))

/-- Plane 0's step at an index: the carried value plus the products over the 1024 rows. -/
theorem pay3_at (acc : FVec Ideal S16x256 .f32) (w : Vec Ideal S512x256 .i32) (x : Vec Ideal S1x16x1024 .bf16)
    (a : Fin 16) (l : Fin 256) :
    k0_pay3 acc w x (ix2 a l)
      = acc (ix2 a l) + ∑ q : Fin 1024, x (ix3 0 a q) * wgt 0 (w (ix2 ⟨q.val / 2, by omega⟩ l)) (q.val % 2) := by
  pointwise [k0_pay3, k0_pay2, halves_at]
  refine congrArg _ (Finset.sum_congr rfl fun q _ => congrArg _ ?_)
  rw [half_0 _ ⟨q.val % 2, Nat.mod_lt _ (by decide)⟩, ofBits_128]
  simp [wgt, offs, nib]

/-- Plane 1's step at an index: the carried value plus the products over the 1024 rows. -/
theorem pay4_at (acc : FVec Ideal S16x256 .f32) (w : Vec Ideal S512x256 .i32) (x : Vec Ideal S1x16x1024 .bf16)
    (a : Fin 16) (l : Fin 256) :
    k0_pay4 acc w x (ix2 a l)
      = acc (ix2 a l) + ∑ q : Fin 1024, x (ix3 0 a q) * wgt 1 (w (ix2 ⟨q.val / 2, by omega⟩ l)) (q.val % 2) := by
  pointwise [k0_pay4, k0_pay2, halves_at]
  refine congrArg _ (Finset.sum_congr rfl fun q _ => congrArg _ ?_)
  rw [half_1 _ ⟨q.val % 2, Nat.mod_lt _ (by decide)⟩, ofBits_16]
  simp [wgt, offs, nib]

/-- Plane 2's step at an index: the carried value plus the products over the 1024 rows. -/
theorem pay5_at (acc : FVec Ideal S16x256 .f32) (w : Vec Ideal S512x256 .i32) (x : Vec Ideal S1x16x1024 .bf16)
    (a : Fin 16) (l : Fin 256) :
    k0_pay5 acc w x (ix2 a l)
      = acc (ix2 a l) + ∑ q : Fin 1024, x (ix3 0 a q) * wgt 2 (w (ix2 ⟨q.val / 2, by omega⟩ l)) (q.val % 2) := by
  pointwise [k0_pay5, k0_pay2, halves_at]
  refine congrArg _ (Finset.sum_congr rfl fun q _ => congrArg _ ?_)
  rw [half_2 _ ⟨q.val % 2, Nat.mod_lt _ (by decide)⟩, ofBits_128]
  simp [wgt, offs, nib]

/-- Plane 3's step at an index: the carried value plus the products over the 1024 rows. -/
theorem pay6_at (acc : FVec Ideal S16x256 .f32) (w : Vec Ideal S512x256 .i32) (x : Vec Ideal S1x16x1024 .bf16)
    (a : Fin 16) (l : Fin 256) :
    k0_pay6 acc w x (ix2 a l)
      = acc (ix2 a l) + ∑ q : Fin 1024, x (ix3 0 a q) * wgt 3 (w (ix2 ⟨q.val / 2, by omega⟩ l)) (q.val % 2) := by
  pointwise [k0_pay6, k0_pay2, halves_at]
  refine congrArg _ (Finset.sum_congr rfl fun q _ => congrArg _ ?_)
  rw [half_3 _ ⟨q.val % 2, Nat.mod_lt _ (by decide)⟩, ofBits_16]
  simp [wgt, offs, nib]

variable (c : Dev nD) (i : grid0.Coords) (arg1 : Memref sig .tc .vmem S8x4608 .bf16) (harg1 : arg1.IsWhole) (arg2 : Memref sig .tc .vmem S9x16x1024 .bf16) (harg2 : arg2.IsWhole)
    (arg3 : Memref sig .tc .vmem S4608x256 .i32) (harg3 : arg3.IsWhole) (arg4 : Memref sig .tc .vmem S1x256 .i32) (harg4 : arg4.IsWhole) (arg5 : Memref sig .tc .vmem S8x256 .f32) (harg5 : arg5.IsWhole)
    (arg6 : Memref sig .tc .vmem S8x8x256 .bf16) (harg6 : arg6.IsWhole)

/-- The words trip `k` loads: rows `512 k` to `512 k + 511`. -/
def wRows (x2 : Vec Ideal S4608x256 .i32) (k : Fin 9) : Vec Ideal S512x256 .i32 :=
  fun y => x2 (ix2 ⟨512 * k.val + (y 0).val, by have h0 : (y 0).val < 512 := (y 0).isLt; omega⟩ (y 1))

/-- The activations trip `k` loads: slab `k`. -/
def xSlab (x1 : Vec Ideal S9x16x1024 .bf16) (k : Fin 9) : Vec Ideal S1x16x1024 .bf16 :=
  fun y => x1 (ix3 k (y 1) (y 2))

/-- The load of the words, in closed form. -/
theorem ld_w (x2 : Vec Ideal S4608x256 .i32) (k : Fin k0_t1_loop.trips) (hk : k.val < 9) :
    View.ld x2 (Rect.unit (s := S4608x256) (k0_off1 k) S512x256.size (k0_off1_inb k)) = wRows x2 ⟨k.val, hk⟩ := by
  funext y
  refine View.ld_unit_apply_of x2 _ _ _ y _ fun a => ?_
  refine Eq.trans ?_ (congrArg (· + (y a).val) (congrFun (k0_off1_eq k) a).symm)
  match a with
  | ⟨0, _⟩ => rfl
  | ⟨1, _⟩ => exact (Nat.zero_add _).symm

/-- The load of the activations, in closed form. -/
theorem ld_x (x1 : Vec Ideal S9x16x1024 .bf16) (k : Fin k0_t1_loop.trips) (hk : k.val < 9) :
    View.ld x1 (Rect.unit (s := S9x16x1024) (k0_off2 k) S1x16x1024.size (k0_off2_inb k)) = xSlab x1 ⟨k.val, hk⟩ := by
  funext y
  refine View.ld_unit_apply_of x1 _ _ _ y _ fun a => ?_
  refine Eq.trans ?_ (congrArg (· + (y a).val) (congrFun (k0_off2_eq k) a).symm)
  match a with
  | ⟨0, _⟩ => have h0 : (y 0).val < 1 := (y 0).isLt; show k.val = k.val + (y 0).val; omega
  | ⟨1, _⟩ => exact (Nat.zero_add _).symm
  | ⟨2, _⟩ => exact (Nat.zero_add _).symm

/-- One trip: each plane's step on the trip's words and activations. -/
theorem trip_eq (x1 : Vec Ideal S9x16x1024 .bf16) (x2 : Vec Ideal S4608x256 .i32) (k : Fin k0_t1_loop.trips) (hk : k.val < 9)
    (acc : FVec Ideal S16x256 .f32 × FVec Ideal S16x256 .f32 × FVec Ideal S16x256 .f32 × FVec Ideal S16x256 .f32) :
    tripR_k0_t1 (F := Ideal) Variants.none c none i arg1 harg1 arg2 harg2 arg3 harg3 arg4 harg4 arg5 harg5 arg6 harg6 (harg2.unread x1) (harg3.unread x2) k acc
      = (k0_pay3 acc.1 (wRows x2 ⟨k.val, hk⟩) (xSlab x1 ⟨k.val, hk⟩), k0_pay4 acc.2.1 (wRows x2 ⟨k.val, hk⟩) (xSlab x1 ⟨k.val, hk⟩),
         k0_pay5 acc.2.2.1 (wRows x2 ⟨k.val, hk⟩) (xSlab x1 ⟨k.val, hk⟩), k0_pay6 acc.2.2.2 (wRows x2 ⟨k.val, hk⟩) (xSlab x1 ⟨k.val, hk⟩)) := by
  rw [← ld_w x2 k hk, ← ld_x x1 k hk]
  unfold tripR_k0_t1
  unfold trip_k0_t1
  dsimp only
  sl_unfold_words
  simp only [View.readAt_eq_ld, harg2.read_unread, harg3.read_unread]

/-- What trip `k` adds to plane `p` at row `a`, column `l`. -/
def step (x1 : Vec Ideal S9x16x1024 .bf16) (x2 : Vec Ideal S4608x256 .i32) (p : Fin 4) (a : Fin 16) (l : Fin 256) (k : ℕ) : EReal :=
  if hk : k < 9 then ∑ q : Fin 1024, x1 (ix3 ⟨k, hk⟩ a q) * wgt p (x2 (ix2 ⟨512 * k + q.val / 2, by omega⟩ l)) (q.val % 2) else 0

/-- The loop makes nine trips. -/
theorem trips_eq : k0_t1_loop.trips = 9 := by decide

/-- The four planes before trip `k`: the sums of the trips before it. -/
theorem state_at (x1 : Vec Ideal S9x16x1024 .bf16) (x2 : Vec Ideal S4608x256 .i32) (a : Fin 16) (l : Fin 256) : ∀ k : ℕ, k ≤ 9 →
    (st_k0_t1 (F := Ideal) Variants.none c none i arg1 harg1 arg2 harg2 arg3 harg3 arg4 harg4 arg5 harg5 arg6 harg6 (harg2.unread x1) (harg3.unread x2) (k0_pay8, k0_pay9, k0_pay10, k0_pay11) k).1 (ix2 a l) = ∑ j ∈ Finset.range k, step x1 x2 0 a l j
    ∧ (st_k0_t1 (F := Ideal) Variants.none c none i arg1 harg1 arg2 harg2 arg3 harg3 arg4 harg4 arg5 harg5 arg6 harg6 (harg2.unread x1) (harg3.unread x2) (k0_pay8, k0_pay9, k0_pay10, k0_pay11) k).2.1 (ix2 a l) = ∑ j ∈ Finset.range k, step x1 x2 1 a l j
    ∧ (st_k0_t1 (F := Ideal) Variants.none c none i arg1 harg1 arg2 harg2 arg3 harg3 arg4 harg4 arg5 harg5 arg6 harg6 (harg2.unread x1) (harg3.unread x2) (k0_pay8, k0_pay9, k0_pay10, k0_pay11) k).2.2.1 (ix2 a l) = ∑ j ∈ Finset.range k, step x1 x2 2 a l j
    ∧ (st_k0_t1 (F := Ideal) Variants.none c none i arg1 harg1 arg2 harg2 arg3 harg3 arg4 harg4 arg5 harg5 arg6 harg6 (harg2.unread x1) (harg3.unread x2) (k0_pay8, k0_pay9, k0_pay10, k0_pay11) k).2.2.2 (ix2 a l) = ∑ j ∈ Finset.range k, step x1 x2 3 a l j
  | 0, _ => by
    rw [st_k0_t1_zero]
    refine ⟨?_, ?_, ?_, ?_⟩
    · pointwise [k0_pay8]; simp
    · pointwise [k0_pay9]; simp
    · pointwise [k0_pay10]; simp
    · pointwise [k0_pay11]; simp
  | k + 1, h => by
    obtain ⟨h0, h1, h2, h3⟩ := state_at x1 x2 a l k (by omega)
    have hk : k < 9 := by omega
    have e := st_k0_t1_succ (F := Ideal) Variants.none c none i arg1 harg1 arg2 harg2 arg3 harg3 arg4 harg4 arg5 harg5 arg6 harg6 (harg2.unread x1) (harg3.unread x2) (k0_pay8, k0_pay9, k0_pay10, k0_pay11) ⟨k, trips_eq ▸ hk⟩
    rw [trip_eq c i arg1 harg1 arg2 harg2 arg3 harg3 arg4 harg4 arg5 harg5 arg6 harg6 x1 x2 ⟨k, trips_eq ▸ hk⟩ hk] at e
    dsimp only at e
    rw [e]
    dsimp only
    rw [pay3_at, pay4_at, pay5_at, pay6_at, h0, h1, h2, h3]
    simp only [Finset.sum_range_succ]
    refine ⟨?_, ?_, ?_, ?_⟩ <;> (refine congrArg _ ?_; unfold step; rw [dif_pos hk]; rfl)

end Cert.KernelIdeal.Value

end
-- ==== Proof.Block.lean ====
module

public import proofs.«01_k».proof.Proof.Trip

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Awq

/-- One stored element: the accumulated product `a`, less the row sum times the zero point plus the plane's offset, times the scale. -/
def cell (a : EReal) (r : EReal) (z : BitVec 32) (s : EReal) (p : Fin 4) (h : Fin 2) : EReal :=
  (a - r * (((nib z (4 * p.val + 16 * h.val) : ℝ) : EReal) + ((offs p : ℝ) : EReal))) * s

/-- A zero point of the kernel: the shifted and masked word, converted, is the code. -/
theorem zero_val (w : BitVec 32) (s : ℕ) (hs : s ≤ 28) :
    FloatOps.sitofp (F := Ideal) .f32 (IntOp.andi (IntOp.shrsi .vector w (BitVec.ofNat 32 s)) 15#32) = ((nib w s : ℝ) : EReal) := by
  show (((IntOp.andi (IntOp.shrsi .vector w (BitVec.ofNat 32 s)) 15#32).toInt : ℝ) : EReal) = _
  rw [shrsi_and_15_toInt _ _ _ hs]
  simp

/-- The store of output row 0 (plane 0, half 0) at an index. -/
theorem store0_at (x0 : Vec Ideal S8x4608 .bf16) (acc : FVec Ideal S16x256 .f32) (z : Vec Ideal S1x256 .i32) (s : Vec Ideal S1x256 .f32)
    (n : Fin 8) (l : Fin 256) :
    k0_pay13 x0 acc z s (ix3 0 n l)
      = cell (acc (ix2 ⟨8 * ((0 : Fin 2)).val + n.val, by omega⟩ l)) (∑ k : Fin 4608, x0 (ix2 n k)) (z (ix2 0 l)) (s (ix2 0 l)) 0 0 := by
  pointwise [k0_pay13, k0_pay7, k0_pay12]
  rw [show 0#32 = BitVec.ofNat 32 0 from rfl, zero_val _ _ (by decide), ofBits_f32_128]
  unfold cell
  congr 3

/-- The store of output row 1 (plane 0, half 1) at an index. -/
theorem store1_at (x0 : Vec Ideal S8x4608 .bf16) (acc : FVec Ideal S16x256 .f32) (z : Vec Ideal S1x256 .i32) (s : Vec Ideal S1x256 .f32)
    (n : Fin 8) (l : Fin 256) :
    k0_pay15 (k0_pay7 x0) acc (k0_pay14 z) 15#32 s (ix3 0 n l)
      = cell (acc (ix2 ⟨8 * ((1 : Fin 2)).val + n.val, by omega⟩ l)) (∑ k : Fin 4608, x0 (ix2 n k)) (z (ix2 0 l)) (s (ix2 0 l)) 0 1 := by
  pointwise [k0_pay15, k0_pay7, k0_pay14, k0_pay12]
  rw [show 16#32 = BitVec.ofNat 32 16 from rfl, zero_val _ _ (by decide), ofBits_f32_128]
  unfold cell
  congr 3

/-- The store of output row 2 (plane 1, half 0) at an index. -/
theorem store2_at (x0 : Vec Ideal S8x4608 .bf16) (acc : FVec Ideal S16x256 .f32) (z : Vec Ideal S1x256 .i32) (s : Vec Ideal S1x256 .f32)
    (n : Fin 8) (l : Fin 256) :
    k0_pay16 (k0_pay7 x0) acc (k0_pay12 z) s (ix3 0 n l)
      = cell (acc (ix2 ⟨8 * ((0 : Fin 2)).val + n.val, by omega⟩ l)) (∑ k : Fin 4608, x0 (ix2 n k)) (z (ix2 0 l)) (s (ix2 0 l)) 1 0 := by
  pointwise [k0_pay16, k0_pay7, k0_pay12]
  rw [show 4#32 = BitVec.ofNat 32 4 from rfl, zero_val _ _ (by decide), ofBits_f32_16]
  unfold cell
  congr 3

/-- The store of output row 3 (plane 1, half 1) at an index. -/
theorem store3_at (x0 : Vec Ideal S8x4608 .bf16) (acc : FVec Ideal S16x256 .f32) (z : Vec Ideal S1x256 .i32) (s : Vec Ideal S1x256 .f32)
    (n : Fin 8) (l : Fin 256) :
    k0_pay18 (k0_pay7 x0) acc (k0_pay17 (k0_pay12 z)) s (ix3 0 n l)
      = cell (acc (ix2 ⟨8 * ((1 : Fin 2)).val + n.val, by omega⟩ l)) (∑ k : Fin 4608, x0 (ix2 n k)) (z (ix2 0 l)) (s (ix2 0 l)) 1 1 := by
  pointwise [k0_pay18, k0_pay7, k0_pay17, k0_pay12]
  rw [show 20#32 = BitVec.ofNat 32 20 from rfl, zero_val _ _ (by decide), ofBits_f32_16]
  unfold cell
  congr 3

/-- The store of output row 4 (plane 2, half 0) at an index. -/
theorem store4_at (x0 : Vec Ideal S8x4608 .bf16) (acc : FVec Ideal S16x256 .f32) (z : Vec Ideal S1x256 .i32) (s : Vec Ideal S1x256 .f32)
    (n : Fin 8) (l : Fin 256) :
    k0_pay19 (k0_pay7 x0) acc (k0_pay12 z) s (ix3 0 n l)
      = cell (acc (ix2 ⟨8 * ((0 : Fin 2)).val + n.val, by omega⟩ l)) (∑ k : Fin 4608, x0 (ix2 n k)) (z (ix2 0 l)) (s (ix2 0 l)) 2 0 := by
  pointwise [k0_pay19, k0_pay7, k0_pay12]
  rw [show 8#32 = BitVec.ofNat 32 8 from rfl, zero_val _ _ (by decide), ofBits_f32_128]
  unfold cell
  congr 3

/-- The store of output row 5 (plane 2, half 1) at an index. -/
theorem store5_at (x0 : Vec Ideal S8x4608 .bf16) (acc : FVec Ideal S16x256 .f32) (z : Vec Ideal S1x256 .i32) (s : Vec Ideal S1x256 .f32)
    (n : Fin 8) (l : Fin 256) :
    k0_pay22 (k0_pay7 x0) (k0_pay20 (k0_pay12 z)) (k0_pay21 acc) s (ix3 0 n l)
      = cell (acc (ix2 ⟨8 * ((1 : Fin 2)).val + n.val, by omega⟩ l)) (∑ k : Fin 4608, x0 (ix2 n k)) (z (ix2 0 l)) (s (ix2 0 l)) 2 1 := by
  pointwise [k0_pay22, k0_pay7, k0_pay20, k0_pay21, k0_pay12]
  rw [show 24#32 = BitVec.ofNat 32 24 from rfl, zero_val _ _ (by decide), ofBits_f32_128]
  unfold cell
  congr 3

/-- The store of output row 6 (plane 3, half 0) at an index. -/
theorem store6_at (x0 : Vec Ideal S8x4608 .bf16) (acc : FVec Ideal S16x256 .f32) (z : Vec Ideal S1x256 .i32) (s : Vec Ideal S1x256 .f32)
    (n : Fin 8) (l : Fin 256) :
    k0_pay23 (k0_pay7 x0) acc (k0_pay12 z) s (ix3 0 n l)
      = cell (acc (ix2 ⟨8 * ((0 : Fin 2)).val + n.val, by omega⟩ l)) (∑ k : Fin 4608, x0 (ix2 n k)) (z (ix2 0 l)) (s (ix2 0 l)) 3 0 := by
  pointwise [k0_pay23, k0_pay7, k0_pay12]
  rw [show 12#32 = BitVec.ofNat 32 12 from rfl, zero_val _ _ (by decide), ofBits_f32_16]
  unfold cell
  congr 3

/-- The store of output row 7 (plane 3, half 1) at an index. -/
theorem store7_at (x0 : Vec Ideal S8x4608 .bf16) (acc : FVec Ideal S16x256 .f32) (z : Vec Ideal S1x256 .i32) (s : Vec Ideal S1x256 .f32)
    (n : Fin 8) (l : Fin 256) :
    k0_pay1 (k0_pay7 x0) (k0_pay24 (k0_pay12 z)) (k0_pay25 acc) k0_pay26 s (ix3 0 n l)
      = cell (acc (ix2 ⟨8 * ((1 : Fin 2)).val + n.val, by omega⟩ l)) (∑ k : Fin 4608, x0 (ix2 n k)) (z (ix2 0 l)) (s (ix2 0 l)) 3 1 := by
  pointwise [k0_pay1, k0_pay7, k0_pay24, k0_pay25, k0_pay26, k0_pay12]
  rw [show 28#32 = BitVec.ofNat 32 28 from rfl, zero_val _ _ (by decide), ofBits_f32_16]
  unfold cell
  congr 3

/-- A block's element: row `2p + h`, batch `n`, column `l`. -/
def blockVal (x0 : Vec Ideal S8x4608 .bf16) (x1 : Vec Ideal S9x16x1024 .bf16) (x2 : Vec Ideal S4608x256 .i32) (x3 : Vec Ideal S1x256 .i32)
    (x4 : Vec Ideal S8x256 .f32) (p : Fin 4) (h : Fin 2) (n : Fin 8) (l : Fin 256) : EReal :=
  cell (∑ k ∈ Finset.range 9, step x1 x2 p ⟨8 * h.val + n.val, by omega⟩ l k) (∑ k : Fin 4608, x0 (ix2 n k)) (x3 (ix2 0 l))
    (x4 (ix2 ⟨2 * p.val + h.val, by omega⟩ l)) p h

/-- A block as a function of its index. -/
def blockAt (x0 : Vec Ideal S8x4608 .bf16) (x1 : Vec Ideal S9x16x1024 .bf16) (x2 : Vec Ideal S4608x256 .i32) (x3 : Vec Ideal S1x256 .i32)
    (x4 : Vec Ideal S8x256 .f32) (y : S8x8x256.Idx) : EReal :=
  blockVal x0 x1 x2 x3 x4 ⟨(y 0).val / 2, by have h : (y 0).val < 8 := (y 0).isLt; omega⟩ ⟨(y 0).val % 2, by omega⟩ (y 1) (y 2)

/-- The block at row `2p + h`. -/
theorem blockAt_eq (x0 : Vec Ideal S8x4608 .bf16) (x1 : Vec Ideal S9x16x1024 .bf16) (x2 : Vec Ideal S4608x256 .i32) (x3 : Vec Ideal S1x256 .i32)
    (x4 : Vec Ideal S8x256 .f32) (y : S8x8x256.Idx) (p : Fin 4) (h : Fin 2) (n : Fin 8) (l : Fin 256)
    (h0 : (y 0).val = 2 * p.val + h.val) (h1 : (y 1).val = n.val) (h2 : (y 2).val = l.val) :
    blockAt x0 x1 x2 x3 x4 y = blockVal x0 x1 x2 x3 x4 p h n l := by
  have e0 : (⟨(y 0).val / 2, by have h : (y 0).val < 8 := (y 0).isLt; omega⟩ : Fin 4) = p := Fin.ext (by show (y 0).val / 2 = p.val; omega)
  have e1 : (⟨(y 0).val % 2, by omega⟩ : Fin 2) = h := Fin.ext (by show (y 0).val % 2 = h.val; omega)
  have e2 : (y 1 : Fin 8) = n := Fin.ext h1
  have e3 : (y 2 : Fin 256) = l := Fin.ext h2
  unfold blockAt
  rw [e0, e1]
  exact congrArg₂ (blockVal x0 x1 x2 x3 x4 p h) e2 e3

variable (c : Dev nD) (i : grid0.Coords) (arg1 : Memref sig .tc .vmem S8x4608 .bf16) (harg1 : arg1.IsWhole) (arg2 : Memref sig .tc .vmem S9x16x1024 .bf16) (harg2 : arg2.IsWhole)
    (arg3 : Memref sig .tc .vmem S4608x256 .i32) (harg3 : arg3.IsWhole) (arg4 : Memref sig .tc .vmem S1x256 .i32) (harg4 : arg4.IsWhole) (arg5 : Memref sig .tc .vmem S8x256 .f32) (harg5 : arg5.IsWhole)
    (arg6 : Memref sig .tc .vmem S8x8x256 .bf16) (harg6 : arg6.IsWhole)

/-- An index of one stored row. -/
theorem row_idx (x : S1x8x256.Idx) : ∃ (n : Fin 8) (l : Fin 256), x = ix3 0 n l :=
  ⟨x 1, x 2, (eq_ix3 x).trans (congrArg (ix3 · (x 1) (x 2)) (Subsingleton.elim (α := Fin 1) _ _))⟩

/-- The zero offsets. -/
theorem hz2 : (![0, 0] : Fin 2 → Nat) = fun _ => 0 := funext fun a => by fin_cases a <;> rfl

/-- The loop's trip count as the run spells it. -/
theorem trips_word : Scf.trips (0#32) (Scalar.addi 0#32 9#32) 1#32 = 9 := by decide

/-- What the body leaves in the output's staging buffer. -/
theorem out_eq (x0 : Vec Ideal S8x4608 .bf16) (x1 : Vec Ideal S9x16x1024 .bf16) (x2 : Vec Ideal S4608x256 .i32) (x3 : Vec Ideal S1x256 .i32)
    (x4 : Vec Ideal S8x256 .f32) :
    out0_A_5 (F := Ideal) c i arg1 harg1 arg2 harg2 arg3 harg3 arg4 harg4 arg5 harg5 arg6 harg6 x0 x1 x2 x3 x4
      = blockAt x0 x1 x2 x3 x4 := by
  funext y
  have hcov := cover0_A_5 (F := Ideal) c i arg1 harg1 arg2 harg2 arg3 harg3 arg4 harg4 arg5 harg5 arg6 harg6 x0 x1 x2 x3 x4
  have hst := fun a l => state_at c i arg1 harg1 arg2 harg2 arg3 harg3 arg4 harg4 arg5 harg5 arg6 harg6 x1 x2 a l 9 le_rfl
  unfold out0_A_5
  rw [View.read_writes_eq_canon _ _ _ hcov]
  refine View.canon_apply_of_pieces (blockAt x0 x1 x2 x3 x4) _ ?_ y (hcov y)
  unfold kernelRun0_A
  dsimp only
  sl_unfold_words
  simp only [View.readAt_eq_ld, harg1.read_unread, harg4.read_unread, harg5.read_unread, trips_word]
  simp only [View.ld_unit_zero (S := S1x256) hz2, View.ld_unit_zero (S := S8x4608) hz2]
  generalize st_k0_t1 (F := Ideal) Variants.none c none i arg1 harg1 arg2 harg2 arg3 harg3 arg4 harg4 arg5 harg5 arg6 harg6 (harg2.unread x1) (harg3.unread x2) (k0_pay8, k0_pay9, k0_pay10, k0_pay11) 9 = st at hst ⊢
  simp only [List.forall_mem_cons, List.not_mem_nil, false_imp_iff, implies_true, and_true]
  refine ⟨?_, ?_, ?_, ?_, ?_, ?_, ?_, ?_⟩
  · intro x
    obtain ⟨n, l, rfl⟩ := row_idx x
    rw [blockAt_eq x0 x1 x2 x3 x4 _ 3 1 n l rfl (by show 0 + 1 * n.val = n.val; omega) (by show 0 + 1 * l.val = l.val; omega)]
    refine (store7_at x0 st.2.2.2 x3 _ n l).trans ?_
    rw [(hst _ _).2.2.2]
    refine congrArg (fun s => cell _ _ _ s 3 1) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 3 0 n l rfl (by show 0 + 1 * n.val = n.val; omega) (by show 0 + 1 * l.val = l.val; omega)]
    refine (store6_at x0 st.2.2.2 x3 _ n l).trans ?_
    rw [(hst _ _).2.2.2]
    refine congrArg (fun s => cell _ _ _ s 3 0) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 2 1 n l rfl (by show 0 + 1 * n.val = n.val; omega) (by show 0 + 1 * l.val = l.val; omega)]
    refine (store5_at x0 st.2.2.1 x3 _ n l).trans ?_
    rw [(hst _ _).2.2.1]
    refine congrArg (fun s => cell _ _ _ s 2 1) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 2 0 n l rfl (by show 0 + 1 * n.val = n.val; omega) (by show 0 + 1 * l.val = l.val; omega)]
    refine (store4_at x0 st.2.2.1 x3 _ n l).trans ?_
    rw [(hst _ _).2.2.1]
    refine congrArg (fun s => cell _ _ _ s 2 0) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 1 1 n l rfl (by show 0 + 1 * n.val = n.val; omega) (by show 0 + 1 * l.val = l.val; omega)]
    refine (store3_at x0 st.2.1 x3 _ n l).trans ?_
    rw [(hst _ _).2.1]
    refine congrArg (fun s => cell _ _ _ s 1 1) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 1 0 n l rfl (by show 0 + 1 * n.val = n.val; omega) (by show 0 + 1 * l.val = l.val; omega)]
    refine (store2_at x0 st.2.1 x3 _ n l).trans ?_
    rw [(hst _ _).2.1]
    refine congrArg (fun s => cell _ _ _ s 1 0) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 0 1 n l rfl (by show 0 + 1 * n.val = n.val; omega) (by show 0 + 1 * l.val = l.val; omega)]
    refine (store1_at x0 st.1 x3 _ n l).trans ?_
    rw [(hst _ _).1]
    refine congrArg (fun s => cell _ _ _ s 0 1) ?_
    exact View.ld_unit_apply_of x4 _ _ _ _ _ fun a => by
      match a with
      | ⟨0, _⟩ => rfl
      | ⟨1, _⟩ => exact (Nat.zero_add _).symm
  · intro x
    obtain ⟨n, l, rfl⟩ := row_idx x
    rw [blockAt_eq x0 x1 x2 x3 x4 _ 0 0 n l rfl (by show 0 + 1 * n.val = n.val; omega) (by show 0 + 1 * l.val = l.val; omega)]
    refine (store0_at x0 st.1 x3 _ n l).trans ?_
    rw [(hst _ _).1]
    refine congrArg (fun s => cell _ _ _ s 0 0) ?_
    exact View.ld_unit_apply_of x4 _ _ _ _ _ fun a => by
      match a with
      | ⟨0, _⟩ => rfl
      | ⟨1, _⟩ => exact (Nat.zero_add _).symm

end Cert.KernelIdeal.Value

end
-- ==== Proof.Host.lean ====
module

public import proofs.«01_k».proof.Proof.Gen.KernelIdeal.Frame
public import Idealize.ShloMosaic.Lib.StableHlo.ReadAt
public import Idealize.ShloMosaic.Lib.Pointwise
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The kernel's first operand is the inputs without their unit axis. -/
theorem xs_at (c : Dev nD) (n : Fin 8) (k : Fin 4608) :
    (V m c main_v0 : S8x4608.Idx → EReal) (ix2 n k) = (m ((c : Thread nD τ).loc main_arg0) : S8x1x4608.Idx → EReal) (ix3 n 0 k) := by
  unfold V
  after_reads_at

/-- The scales as the kernel reads them: one row per packed output. -/
theorem st_at (c : Dev nD) (j : Fin 8) (k : Fin 4608) :
    (V m c main_v15 : S8x4608.Idx → EReal) (ix2 j k) = (m ((c : Thread nD τ).loc main_arg3) : S36864.Idx → EReal) (ix1 ⟨k.val * 8 + j.val, by omega⟩) := by
  unfold V
  after_reads_at

/-- The packed zero points as one row. -/
theorem zs_at (c : Dev nD) (k : Fin 4608) :
    (V m c main_v16 : S1x4608.Idx → BitVec 32) (ix2 0 k) = (m ((c : Thread nD τ).loc main_arg2) : S4608.Idx → BitVec 32) (ix1 k) := by
  unfold V
  after_reads_at

/-- The first copy of the inputs, spread to even places. -/
theorem even_at (c : Dev nD) (n : Fin 8) (r : Fin 9216) :
    (StableHlo.upto [hostOps0].flatten (fun b => m (c, b)) 11 (Proc.tc.devRef main_v5) : S8x9216.Idx → EReal) (ix2 n r)
      = if r.val % 2 < 1 then (m ((c : Thread nD τ).loc main_arg0) : S8x1x4608.Idx → EReal) (ix3 n 0 ⟨r.val / 2, by omega⟩) else (0 : EReal) := by
  after_reads_at
  by_cases h : r.val % 2 < 1
  · simp only [dif_pos h, if_pos h]
    after_reads_at
  · simp only [dif_neg h, if_neg h]
    after_reads_at

/-- The second copy of the inputs, spread to odd places. -/
theorem odd_at (c : Dev nD) (n : Fin 8) (r : Fin 9216) :
    (StableHlo.upto [hostOps0].flatten (fun b => m (c, b)) 11 (Proc.tc.devRef main_v9) : S8x9216.Idx → EReal) (ix2 n r)
      = if r.val % 2 < 1 then (0 : EReal) else (m ((c : Thread nD τ).loc main_arg0) : S8x1x4608.Idx → EReal) (ix3 n 0 ⟨r.val / 2, by omega⟩) := by
  after_reads_at
  by_cases h : r.val % 2 < 1
  · simp only [dif_pos h, if_pos h]
    after_reads_at
  · simp only [dif_neg h, if_neg h]
    after_reads_at

/-- The widened inputs: row `8h + n` of a slab holds batch `n` of the inputs at the places of parity `h`, zero elsewhere. -/
theorem xe_at (c : Dev nD) (i : Fin 9) (a : Fin 16) (q : Fin 1024) :
    (V m c main_v12 : S9x16x1024.Idx → EReal) (ix3 i a q) = (if a.val / 8 = q.val % 2 then (m ((c : Thread nD τ).loc main_arg0) : S8x1x4608.Idx → EReal) (ix3 ⟨a.val % 8, by omega⟩ 0 ⟨512 * i.val + q.val / 2, by omega⟩) else (0 : EReal) : EReal) := by
  unfold V
  after_reads_at
  split
  · refine (even_at m c _ _).trans ?_
    by_cases e : a.val / 8 = q.val % 2
    · refine (if_pos (by show (i.val * 1024 + q.val) % 2 < 1; omega)).trans (Eq.trans ?_ (if_pos e).symm)
      exact congrArg₂ (fun n k => (m ((c : Thread nD τ).loc main_arg0) : S8x1x4608.Idx → EReal) (ix3 n 0 k)) (Fin.ext (by show a.val = a.val % 8; omega))
        (Fin.ext (by show (i.val * 1024 + q.val) / 2 = 512 * i.val + q.val / 2; omega))
    · exact (if_neg (by show ¬ (i.val * 1024 + q.val) % 2 < 1; omega)).trans (if_neg e).symm
  · refine (odd_at m c _ _).trans ?_
    by_cases e : a.val / 8 = q.val % 2
    · refine (if_neg (by show ¬ (i.val * 1024 + q.val) % 2 < 1; omega)).trans (Eq.trans ?_ (if_pos e).symm)
      exact congrArg₂ (fun n k => (m ((c : Thread nD τ).loc main_arg0) : S8x1x4608.Idx → EReal) (ix3 n 0 k)) (Fin.ext (by show a.val - 8 = a.val % 8; omega))
        (Fin.ext (by show (i.val * 1024 + q.val) / 2 = 512 * i.val + q.val / 2; omega))
    · exact (if_pos (by show (i.val * 1024 + q.val) % 2 < 1; omega)).trans (if_neg e).symm

end Cert.KernelIdeal.Value

end
-- ==== Proof.Sums.lean ====
module

public import proofs.«01_k».proof.Proof.Nibble

@[expose] public section

noncomputable section

namespace Cert.Awq

/-- A sum over 1024 places is a sum over 512 pairs of places. -/
theorem sum_pairs (f : Fin 1024 → EReal) :
    ∑ q, f q = ∑ r : Fin 512, ∑ b : Fin 2, f ⟨2 * r.val + b.val, by omega⟩ := by
  rw [← Fintype.sum_prod_type', ← (finProdFinEquiv (m := 512) (n := 2)).sum_comp (fun q => f q)]
  refine Finset.sum_congr rfl fun x _ => congrArg f (Fin.ext ?_)
  show x.2.val + 2 * x.1.val = 2 * x.1.val + x.2.val
  omega

/-- A sum over 4608 places is nine sums over 512 places. -/
theorem sum_slabs (f : Fin 4608 → EReal) :
    ∑ k, f k = ∑ i : Fin 9, ∑ r : Fin 512, f ⟨512 * i.val + r.val, by omega⟩ := by
  rw [← Fintype.sum_prod_type', ← (finProdFinEquiv (m := 9) (n := 512)).sum_comp (fun q => f q)]
  refine Finset.sum_congr rfl fun x _ => congrArg f (Fin.ext ?_)
  show x.2.val + 512 * x.1.val = 512 * x.1.val + x.2.val
  omega

/-- The widened product: the places of the wrong parity hold zero and drop out, so the slabs' sum is the plain sum over the inputs. -/
theorem sum_widened (x : Fin 4608 → EReal) (g : Fin 4608 → ℕ → EReal) (h : Fin 2) :
    (∑ k ∈ Finset.range 9, if hk : k < 9 then ∑ q : Fin 1024,
        (if h.val = q.val % 2 then x ⟨512 * k + q.val / 2, by omega⟩ else 0) * g ⟨512 * k + q.val / 2, by omega⟩ (q.val % 2) else 0)
      = ∑ k : Fin 4608, x k * g k h.val := by
  rw [Finset.sum_range, sum_slabs]
  refine Finset.sum_congr rfl fun i _ => ?_
  rw [dif_pos i.isLt, sum_pairs]
  refine Finset.sum_congr rfl fun r _ => ?_
  have e : ∀ b : Fin 2, (if h.val = (2 * r.val + b.val) % 2 then x ⟨512 * i.val + (2 * r.val + b.val) / 2, by omega⟩ else 0)
      * g ⟨512 * i.val + (2 * r.val + b.val) / 2, by omega⟩ ((2 * r.val + b.val) % 2)
      = if b = h then x ⟨512 * i.val + r.val, by omega⟩ * g ⟨512 * i.val + r.val, by omega⟩ h.val else 0 := by
    intro b
    by_cases hb : b = h
    · subst hb
      have h1 : (2 * r.val + b.val) % 2 = b.val := by omega
      have h2 : (2 * r.val + b.val) / 2 = r.val := by omega
      simp only [h1, h2, if_true]
    · have h1 : ¬ h.val = (2 * r.val + b.val) % 2 := fun e => hb (Fin.ext (by omega))
      rw [if_neg h1, if_neg hb, zero_mul]
  refine (Finset.sum_congr rfl fun b _ => e b).trans ?_
  rw [Finset.sum_ite_eq' Finset.univ h, if_pos (Finset.mem_univ h)]

end Cert.Awq

end
-- ==== Proof.Array.lean ====
module

public import proofs.«01_k».proof.Proof.Block
public import proofs.«01_k».proof.Proof.Host
public import proofs.«01_k».proof.Proof.Sums
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Awq

variable (m : (ℓ : Loc nD τ sig) → Buf (Elt Ideal) ℓ)

/-- The inputs, batch by place. -/
def inX (c : Dev nD) (n : Fin 8) (k : Fin 4608) : EReal := (m ((c : Thread nD τ).loc main_arg0) : S8x1x4608.Idx → EReal) (ix3 n 0 k)
/-- The packed weight words. -/
def inQ (c : Dev nD) (k : Fin 4608) (l : Fin 4608) : BitVec 32 := (m ((c : Thread nD τ).loc main_arg1) : S4608x4608.Idx → BitVec 32) (ix2 k l)
/-- The packed zero-point words. -/
def inZ (c : Dev nD) (l : Fin 4608) : BitVec 32 := (m ((c : Thread nD τ).loc main_arg2) : S4608.Idx → BitVec 32) (ix1 l)
/-- The scales. -/
def inS (c : Dev nD) (l : Fin 4608) (j : Fin 8) : EReal := (m ((c : Thread nD τ).loc main_arg3) : S36864.Idx → EReal) (ix1 ⟨l.val * 8 + j.val, by omega⟩)

/-- What the kernel's output array holds at row `2p + h`, batch `n`, column `l`. -/
def outVal (c : Dev nD) (p : Fin 4) (h : Fin 2) (n : Fin 8) (l : Fin 4608) : EReal :=
  cell (∑ k : Fin 4608, inX m c n k * wgt p (inQ m c k l) h.val) (∑ k : Fin 4608, inX m c n k) (inZ m c l)
    (inS m c l ⟨2 * p.val + h.val, by omega⟩) p h

/-- The output array as a function of its index. -/
def outAt (c : Dev nD) (y : S8x8x4608.Idx) : EReal :=
  outVal m c ⟨(y 0).val / 2, by have h : (y 0).val < 8 := (y 0).isLt; omega⟩ ⟨(y 0).val % 2, by omega⟩ (y 1) (y 2)

/-- The output array at row `2p + h`. -/
theorem outAt_eq (c : Dev nD) (y : S8x8x4608.Idx) (p : Fin 4) (h : Fin 2) (n : Fin 8) (l : Fin 4608)
    (h0 : (y 0).val = 2 * p.val + h.val) (h1 : (y 1).val = n.val) (h2 : (y 2).val = l.val) : outAt m c y = outVal m c p h n l := by
  have e0 : (⟨(y 0).val / 2, by have h : (y 0).val < 8 := (y 0).isLt; omega⟩ : Fin 4) = p := Fin.ext (by show (y 0).val / 2 = p.val; omega)
  have e1 : (⟨(y 0).val % 2, by omega⟩ : Fin 2) = h := Fin.ext (by show (y 0).val % 2 = h.val; omega)
  have e2 : (y 1 : Fin 8) = n := Fin.ext h1
  have e3 : (y 2 : Fin 4608) = l := Fin.ext h2
  unfold outAt
  rw [e0, e1]
  exact congrArg₂ (outVal m c p h) e2 e3

/-- Where each window's block lies at point `t`. -/
theorem idx : ∀ t : Fin cfg0.N, win0_0.index t = ![0, 0] ∧ win0_1.index t = ![0, 0, 0] ∧ win0_2.index t = ![0, t.val] ∧ win0_3.index t = ![0, t.val]
    ∧ win0_4.index t = ![0, t.val] ∧ win0_5.index t = ![0, 0, t.val] :=
  (by decide +kernel : ∀ t : Fin grid0.N, win0_0.index t = ![0, 0] ∧ win0_1.index t = ![0, 0, 0] ∧ win0_2.index t = ![0, t.val] ∧ win0_3.index t = ![0, t.val]
    ∧ win0_4.index t = ![0, t.val] ∧ win0_5.index t = ![0, 0, t.val])

/-- Column `l` of block `t`. -/
def col (t : Fin cfg0.N) (l : Fin 256) : Fin 4608 := ⟨t.val * 256 + l.val, by have h : t.val < 18 := t.isLt; omega⟩

/-- Every point sees all the inputs. -/
theorem blk0 (c : Dev nD) (t : Fin cfg0.N) (n : Fin 8) (k : Fin 4608) : (iblk m c 0 t : S8x4608.Idx → EReal) (ix2 n k) = inX m c n k := by
  refine Eq.trans ?_ (xs_at m c n k)
  blk_ext [iblk, idx t]
/-- Every point sees all the widened inputs. -/
theorem blk1 (c : Dev nD) (t : Fin cfg0.N) (i : Fin 9) (a : Fin 16) (q : Fin 1024) :
    (iblk m c 1 t : S9x16x1024.Idx → EReal) (ix3 i a q) = if a.val / 8 = q.val % 2 then inX m c ⟨a.val % 8, by omega⟩ ⟨512 * i.val + q.val / 2, by omega⟩ else 0 := by
  refine Eq.trans ?_ (xe_at m c i a q)
  blk_ext [iblk, idx t]
/-- Point `t` sees columns `256 t` on of the packed weights. -/
theorem blk2 (c : Dev nD) (t : Fin cfg0.N) (k : Fin 4608) (l : Fin 256) : (iblk m c 2 t : S4608x256.Idx → BitVec 32) (ix2 k l) = inQ m c k (col t l) := by
  unfold inQ col
  blk_ext [iblk, V, idx t]
/-- Point `t` sees the zero points of its columns. -/
theorem blk3 (c : Dev nD) (t : Fin cfg0.N) (l : Fin 256) : (iblk m c 3 t : S1x256.Idx → BitVec 32) (ix2 0 l) = inZ m c (col t l) := by
  refine Eq.trans ?_ (zs_at m c (col t l))
  unfold col
  blk_ext [iblk, idx t]
/-- Point `t` sees the scales of its columns. -/
theorem blk4 (c : Dev nD) (t : Fin cfg0.N) (j : Fin 8) (l : Fin 256) : (iblk m c 4 t : S8x256.Idx → EReal) (ix2 j l) = inS m c (col t l) j := by
  refine Eq.trans ?_ (st_at m c j (col t l))
  unfold col
  blk_ext [iblk, idx t]

/-- An element's value from equal parts. -/
theorem cell_congr {a a' r r' : EReal} {z z' : BitVec 32} {s s' : EReal} {p : Fin 4} {h : Fin 2} (ha : a = a') (hr : r = r') (hz : z = z') (hs : s = s') :
    cell a r z s p h = cell a' r' z' s' p h := by
  rw [ha, hr, hz, hs]

/-- Block `t` of the kernel, over the windows' blocks. -/
theorem blockVal_eq (c : Dev nD) (t : Fin cfg0.N) (p : Fin 4) (h : Fin 2) (n : Fin 8) (l : Fin 256) :
    blockVal (iblk m c 0 t) (iblk m c 1 t) (iblk m c 2 t) (iblk m c 3 t) (iblk m c 4 t) p h n l = outVal m c p h n (col t l) := by
  unfold blockVal outVal
  have e1 : ∀ k, step (iblk m c 1 t) (iblk m c 2 t) p ⟨8 * h.val + n.val, by omega⟩ l k
      = if hk : k < 9 then ∑ q : Fin 1024, (if h.val = q.val % 2 then inX m c n ⟨512 * k + q.val / 2, by omega⟩ else 0)
          * wgt p (inQ m c ⟨512 * k + q.val / 2, by omega⟩ (col t l)) (q.val % 2) else 0 := by
    intro k
    unfold step
    split
    · rename_i hk
      refine Finset.sum_congr rfl fun q _ => ?_
      refine congrArg₂ (fun a b => a * wgt p b (q.val % 2)) ((blk1 m c t ⟨k, hk⟩ ⟨8 * h.val + n.val, by omega⟩ q).trans ?_) (blk2 m c t ⟨512 * k + q.val / 2, by omega⟩ l)
      have h1 : (8 * h.val + n.val) / 8 = h.val := by omega
      have h2 : (8 * h.val + n.val) % 8 = n.val := by omega
      simp only [h1, h2]
    · rfl
  rw [Finset.sum_congr rfl fun k _ => e1 k, sum_widened (inX m c n) (fun k s => wgt p (inQ m c k (col t l)) s) h]
  exact cell_congr rfl (Finset.sum_congr rfl fun k _ => blk0 m c t n k) (blk3 m c t l) (blk4 m c t _ l)

/-- The output array after the run. -/
theorem final (c : Dev nD) : (dats m 0 c).arrAt 5 cfg0.N = outAt m c := by
  refine Dat.arrAt_eq_of_covers (dats m 0 c) 5 (outAt m c) (by decide +kernel : (cfg0.win 5).Covers) (fun t _ y => ?_)
  blk_simp
  rw [after0_5]
  unfold outsAt0
  rw [out_eq]
  refine (blockVal_eq m c t _ _ (y 1) (y 2)).trans (outAt_eq m c _ _ _ (y 1) (col t (y 2)) ?_ ?_ ?_).symm
  · blk_simp [idx t]
    show (y 0).val = 2 * ((y 0).val / 2) + (y 0).val % 2
    omega
  · blk_simp [idx t]
  · unfold col
    blk_simp [idx t]

/-- The result after the run: the output array re-read row by row. -/
theorem tail_at (c : Dev nD) (n : Fin 8) (i : Fin 36864) :
    (Pipeline.afterTail₀ cfgs (dats m) 0 (V0 m) [hostOps1] c main_v19 : S8x1x36864.Idx → EReal) (ix3 n 0 i)
      = outVal m c ⟨i.val % 8 / 2, by omega⟩ ⟨i.val % 8 % 2, by omega⟩ n ⟨i.val / 8, by omega⟩ := by
  unfold Pipeline.afterTail₀
  after_reads_at
  refine (congrFun ((Pipeline.withArrays_arr (cfgs 0).spec launch0.win.arr_inj c (V0 m c) (fun w => (dats m 0 c).arrAt w (cfgs 0).N) 5).trans (final m c)) _).trans ?_
  rfl

/-- The result as a function of its index. -/
def result (c : Dev nD) (y : S8x1x36864.Idx) : EReal :=
  outVal m c ⟨(y 2).val % 8 / 2, by omega⟩ ⟨(y 2).val % 8 % 2, by omega⟩ (y 0) ⟨(y 2).val / 8, by have h : (y 2).val < 36864 := (y 2).isLt; omega⟩

/-- The result after the run is that function. -/
theorem tail_eq (c : Dev nD) : Pipeline.afterTail₀ cfgs (dats m) 0 (V0 m) [hostOps1] c main_v19 = result m c := by
  funext (y : S8x1x36864.Idx)
  have hy : y = ix3 (y 0) 0 (y 2) :=
    (eq_ix3 y).trans (congrArg (ix3 (y 0) · (y 2)) (Subsingleton.elim (α := Fin 1) _ _))
  exact (congrArg (Pipeline.afterTail₀ cfgs (dats m) 0 (V0 m) [hostOps1] c main_v19) hy).trans (tail_at m c (y 0) (y 2))

variable (ρ : Dev nD → PrngReg)

/-- The kernel's run: it ends with the named result and its arguments as launched. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelIdeal.Value

end
-- ==== Proof.Ref.lean ====
module

public import proofs.«01_k».proof.Proof.Gen.ReferenceIdeal.Run
public import proofs.«01_k».proof.Proof.Nibble
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Awq

/-- What the reference computes from its four arguments. -/
def REF (a0 : FVec Ideal S8x1x4608 .bf16) (a1 : IVec S4608x4608 32) (a2 : IVec S4608 32) (a3 : FVec Ideal S36864 .bf16) : FVec Ideal S8x1x36864 .bf16 :=
  truncf .bf16 (shapeCast _ (transpose S8x4608x8 [0, 2, 1] (mulf (subf (Host.dotGeneral dot_S8x4608_S4608x8x4608_S8x8x4608_1_0_0_12_n_n none (shapeCast _ a0 shapeCasts_S8x1x4608_S8x4608) (sitofp .bf16 (andi (Host.shrsi (broadcastInDim S4608x8x4608 ![0, 1, 2] bcast_S4608x1x4608_S4608x8x4608_0_1_2 (broadcastInDim S4608x1x4608 ![0, 2] bcast_S4608x4608_S4608x1x4608_0_2 a1)) (broadcastInDim S4608x8x4608 ![0, 1, 2] bcast_S1x8x1_S4608x8x4608_0_1_2 (broadcastInDim S1x8x1 ![1] bcast_S8_S1x8x1_1 ((fun i => lit0 (S8.rowMajor i)))))) (broadcastInDim S4608x8x4608 ![] bcast_S_S4608x8x4608 (constantI S_ 32 15#32))))) (mulf (broadcastInDim S8x8x4608 ![0, 1, 2] bcast_S8x1x1_S8x8x4608_0_1_2 (broadcastInDim S8x1x1 ![0, 1] bcast_S8x1_S8x1x1_0_1 (broadcastInDim S8x1 ![0] bcast_S8_S8x1_0 (Host.reduceAdd (extf .f32 (shapeCast _ a0 shapeCasts_S8x1x4608_S8x4608) bitsLt_bf16_f32) (constant S_ .f32 0x00000000#32) reducesTo_S8x4608_S8_d1 h_S_)))) (broadcastInDim S8x8x4608 ![0, 1, 2] bcast_S1x8x4608_S8x8x4608_0_1_2 (broadcastInDim S1x8x4608 ![1, 2] bcast_S8x4608_S1x8x4608_1_2 (sitofp .f32 (andi (Host.shrsi (broadcastInDim S8x4608 ![0, 1] bcast_S1x4608_S8x4608_0_1 (broadcastInDim S1x4608 ![1] bcast_S4608_S1x4608_1 a2)) (broadcastInDim S8x4608 ![0, 1] bcast_S8x1_S8x4608_0_1 (broadcastInDim S8x1 ![0] bcast_S8_S8x1_0 ((fun i => lit0 (S8.rowMajor i)))))) (broadcastInDim S8x4608 ![] bcast_S_S8x4608 (constantI S_ 32 15#32)))))))) (broadcastInDim S8x8x4608 ![0, 1, 2] bcast_S1x8x4608_S8x8x4608_0_1_2 (broadcastInDim S1x8x4608 ![1, 2] bcast_S8x4608_S1x8x4608_1_2 (transpose S8x4608 [1, 0] (shapeCast _ (extf .f32 a3 bitsLt_bf16_f32) shapeCasts_S36864_S4608x8) transposes_S4608x8_S8x4608_1_0)))) transposes_S8x8x4608_S8x4608x8_0_2_1) shapeCasts_S8x4608x8_S8x1x36864) bitsLt_bf16_f32

/-- The order in which a word's eight codes are unpacked. -/
theorem lit_at (j : Fin 8) : lit0 (S8.rowMajor (ix1 j)) = BitVec.ofNat 32 (4 * (j.val / 2) + 16 * (j.val % 2)) := by
  revert j; decide

/-- A word shifted and masked, converted, is its code. -/
theorem code_val (f : FTy) (w : BitVec 32) (s : ℕ) (hs : s ≤ 28) :
    FloatOps.sitofp (F := Ideal) f (IntOp.andi (IntOp.shrsi .host w (BitVec.ofNat 32 s)) 15#32) = ((nib w s : ℝ) : EReal) := by
  show (((IntOp.andi (IntOp.shrsi .host w (BitVec.ofNat 32 s)) 15#32).toInt : ℝ) : EReal) = _
  rw [shrsi_and_15_toInt _ _ _ hs]
  simp

/-- The reference's result at an index. -/
theorem ref_at (a0 : FVec Ideal S8x1x4608 .bf16) (a1 : IVec S4608x4608 32) (a2 : IVec S4608 32) (a3 : FVec Ideal S36864 .bf16) (n : Fin 8) (i : Fin 36864) :
    (REF a0 a1 a2 a3 : S8x1x36864.Idx → EReal) (ix3 n 0 i)
      = ((∑ k : Fin 4608, (a0 (ix3 n 0 k) : EReal) * ((nib (a1 (ix2 k ⟨i.val / 8, by omega⟩)) (4 * (i.val % 8 / 2) + 16 * (i.val % 8 % 2)) : ℝ) : EReal))
          - (∑ k : Fin 4608, (a0 (ix3 n 0 k) : EReal)) * ((nib (a2 (ix1 ⟨i.val / 8, by omega⟩)) (4 * (i.val % 8 / 2) + 16 * (i.val % 8 % 2)) : ℝ) : EReal)) * a3 (ix1 i) := by
  pointwise [REF]
  have e : ∀ f : FTy, ∀ w : BitVec 32, FloatOps.sitofp (F := Ideal) f (IntOp.andi (IntOp.shrsi .host w (lit0 (S8.rowMajor (ix1 (⟨i.val % 8, by omega⟩ : Fin 8))))) 15#32)
      = ((nib w (4 * (i.val % 8 / 2) + 16 * (i.val % 8 % 2)) : ℝ) : EReal) := fun f w => by
    rw [lit_at]
    exact code_val f w _ (by omega)
  simp only [e]

end Cert.ReferenceIdeal.Value

end
-- ==== Proof.Equation.lean ====
module

public import proofs.«01_k».proof.Proof.Array
public import proofs.«01_k».proof.Proof.Ref

@[expose] public section

noncomputable section

namespace Cert.Awq

open Idealize.ShloMosaic Idealize.ShloMosaic.TcCoe
open Cert.KernelIdeal.Value

/-- A sum of real numbers, read as extended reals. -/
theorem coe_sum (f : Fin 4608 → ℝ) : ∑ k, ((f k : ℝ) : EReal) = ((∑ k, f k : ℝ) : EReal) := by
  induction (Finset.univ : Finset (Fin 4608)) using Finset.induction_on with
  | empty => simp
  | insert a s ha ih => rw [Finset.sum_insert ha, Finset.sum_insert ha, EReal.coe_add, ih]

/-- For real inputs the plane's offset cancels: the offset weights' product, less the row sum times the offset zero point, is the codes' product less the row sum times the zero point. -/
theorem offset_cancels (x : Fin 4608 → EReal) (hx : ∀ k, ∃ r : ℝ, x k = (r : EReal)) (w : Fin 4608 → BitVec 32) (z : BitVec 32) (s : EReal)
    (p : Fin 4) (h : Fin 2) :
    cell (∑ k, x k * wgt p (w k) h.val) (∑ k, x k) z s p h
      = ((∑ k, x k * ((nib (w k) (4 * p.val + 16 * h.val) : ℝ) : EReal)) - (∑ k, x k) * ((nib z (4 * p.val + 16 * h.val) : ℝ) : EReal)) * s := by
  choose r hr using hx
  unfold cell wgt
  simp only [hr, ← EReal.coe_mul, ← EReal.coe_add, coe_sum, ← EReal.coe_sub]
  congr 2
  simp only [mul_add, Finset.sum_add_distrib, Finset.sum_mul]
  ring

/-- The kernel's result is the reference's, on arguments whose inputs are real numbers. -/
theorem result_eq (m : (ℓ : Loc Cert.KernelIdeal.nD Cert.KernelIdeal.τ Cert.KernelIdeal.sig) → Buf (Elt Ideal) ℓ) (c : Dev Cert.KernelIdeal.nD)
    (hx : ∀ n k, ∃ r : ℝ, inX m c n k = (r : EReal)) :
    Cert.ReferenceIdeal.Value.REF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = result m c := by
  funext (y : Cert.KernelIdeal.S8x1x36864.Idx)
  obtain ⟨n, i, rfl⟩ : ∃ (n : Fin 8) (i : Fin 36864), y = ix3 n 0 i :=
    ⟨y 0, y 2, (eq_ix3 y).trans (congrArg (ix3 (y 0) · (y 2)) (Subsingleton.elim (α := Fin 1) _ _))⟩
  refine (Cert.ReferenceIdeal.Value.ref_at _ _ _ _ n i).trans ?_
  refine Eq.trans ?_ (offset_cancels (inX m c n) (hx n) (fun k => inQ m c k ⟨i.val / 8, by omega⟩) (inZ m c ⟨i.val / 8, by omega⟩)
    (inS m c ⟨i.val / 8, by omega⟩ ⟨2 * (i.val % 8 / 2) + i.val % 8 % 2, by omega⟩) ⟨i.val % 8 / 2, by omega⟩ ⟨i.val % 8 % 2, by omega⟩).symm
  refine congrArg₂ (fun a b : EReal => a * b) rfl ?_
  exact congrArg (fun k => (m ((c.tc : Thread Cert.KernelIdeal.nD Cert.KernelIdeal.τ).loc Cert.KernelIdeal.main_arg3) : Cert.KernelIdeal.S36864.Idx → EReal) (ix1 k))
    (Fin.ext (by show i.val = i.val / 8 * 8 + (2 * (i.val % 8 / 2) + i.val % 8 % 2); omega))

end Cert.Awq

end
-- ==== Proof.Finite.lean ====
module

public import proofs.«01_k».proof.Proof.Gen.Pre_x_finite
public import Idealize.ShloMosaic.Lib.ReduceAll
public import Idealize.ShloMosaic.Lib.Pointwise

@[expose] public section

noncomputable section

namespace Cert.Pre_x_finite

open Idealize.ShloMosaic

/-- The constant the precondition compares against is infinity. -/
theorem inf_val : Ideal.ofBits .bf16 0x7F80#16 = (⊤ : EReal) := by
  simp [Ideal.ofBits, Ideal.ieee]

/-- Where the precondition holds, every input is a real number. -/
theorem real_of_pre [Facts] (a0 : FVec Ideal S8x1x4608 .bf16) (a1 : IVec S4608x4608 32) (a2 : IVec S4608 32) (a3 : FVec Ideal S36864 .bf16)
    (h : fn (F := Ideal) a0 a1 a2 a3 = fun _ => 1#1) (j : S8x1x4608.Idx) : ∃ r : ℝ, (a0 j : EReal) = (r : EReal) := by
  have h0 := congrFun h (fun a => a.elim0)
  unfold fn at h0
  have : Subsingleton S_.Idx := ⟨fun a b => funext fun k => k.elim0⟩
  have h1 := Host.reduce_andi_all _ _ _ _ _ h0 j
  have h2 : BitVec.ofBool (decide (max (a0 j : EReal) (-(a0 j : EReal)) < Ideal.ofBits .bf16 0x7F80#16)) = 1#1 := h1
  rw [inf_val] at h2
  have h3 : max (a0 j : EReal) (-(a0 j : EReal)) < ⊤ := by
    by_contra hc
    rw [decide_eq_false hc] at h2
    exact absurd h2 (by decide)
  obtain ⟨h4, h5⟩ := max_lt_iff.mp h3
  refine ⟨(a0 j : EReal).toReal, (EReal.coe_toReal (ne_of_lt h4) fun hb => ?_).symm⟩
  rw [hb] at h5
  exact absurd h5 (by simp)

end Cert.Pre_x_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_x_finite
public import proofs.«01_k».proof.Proof.Gen.ReferenceIdeal.Run
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments unchanged and every counter at zero. -/
theorem reference_frame : quiescent_ReferenceIdeal (hReferenceIdeal := Cert.ReferenceIdeal.Gen.facts) := fun m ρ _ =>
  (θ_run Cert.ReferenceIdeal.defs _ _).mono (fun r h => And.intro (fun c => (h c).2) (Idealize.ShloMosaic.sem_eq_zero_of_no_sems (by decide) r.2))
    (Cert.ReferenceIdeal.Value.run (F := Ideal) m ρ)

/-- The kernel and the reference end with equal results wherever the precondition holds. -/
theorem algebraic : algebraic_KernelIdeal_ReferenceIdeal_pre_x_finite (hKernelIdeal := Cert.KernelIdeal.Gen.facts)
    (hReferenceIdeal := Cert.ReferenceIdeal.Gen.facts) (hPre_x_finite := Cert.Pre_x_finite.Gen.facts) := by
  intro m g m' g' hpre hargs
  refine ⟨fun c => Cert.KernelIdeal.Value.result m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨e0, e1, e2, e3⟩ := hargs c
  have hx : ∀ n k, ∃ r : ℝ, Cert.KernelIdeal.Value.inX m c n k = (r : EReal) := fun n k =>
    Cert.Pre_x_finite.real_of_pre _ _ _ _ (hpre c) (ix3 n 0 k)
  rw [e0, e1, e2, e3]
  exact Cert.Awq.result_eq m c hx

/-- Everything the certificate claims. -/
theorem claim : Cert.Claim := ⟨Cert.Kernel.Gen.facts, Cert.KernelIdeal.Gen.facts, Cert.ReferenceIdeal.Gen.facts, Cert.Pre_x_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  algebraic⟩

end Cert.Proof

end
